-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32768 : Shape := ⟨2, ![128, 32768]⟩
abbrev S128x8192 : Shape := ⟨2, ![128, 8192]⟩
abbrev S128x1 : Shape := ⟨2, ![128, 1]⟩
abbrev S64x8192 : Shape := ⟨2, ![64, 8192]⟩
abbrev S128x128 : Shape := ⟨2, ![128, 128]⟩
abbrev S128 : Shape := ⟨1, ![128]⟩
abbrev S128x64 : Shape := ⟨2, ![128, 64]⟩
abbrev S128x63 : Shape := ⟨2, ![128, 63]⟩

abbrev nBuf : Space → Nat
  | .hbm => 2
  | .vmem => 7
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x1, .f32⟩
  | .local _ .vmem, ⟨5, _⟩ => ⟨S64x8192, .f32⟩
  | .local _ .vmem, ⟨6, _⟩ => ⟨S128x128, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x32768 : Shape := ⟨2, ![128, 32768]⟩
abbrev S128x32767 : Shape := ⟨2, ![128, 32767]⟩
abbrev S_ : Shape := ⟨0, ![]⟩
abbrev S128x1 : Shape := ⟨2, ![128, 1]⟩

abbrev nBuf : Space → Nat
  | .hbm => 8
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32767, .f32⟩
  | .hbm, ⟨2, _⟩ => ⟨S_, .f32⟩
  | .hbm, ⟨3, _⟩ => ⟨S_, .f32⟩
  | .hbm, ⟨4, _⟩ => ⟨S128x32767, .f32⟩
  | .hbm, ⟨5, _⟩ => ⟨S_, .f32⟩
  | .hbm, ⟨6, _⟩ => ⟨S128x1, .f32⟩
  | .hbm, ⟨7, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Scan.lean ====
/-
  Sums over initial segments, in any commutative monoid and over the extended reals: what a blocked exclusive scan adds up.
  Nothing here speaks of a program.
-/
module

public import Idealize.ShloMosaic.PureOps.Ideal
public import Idealize.ShloMosaic.Lib.Pointwise
public import Mathlib.Algebra.BigOperators.Intervals

@[expose] public section

noncomputable section

namespace Cert.Scan

open Idealize.ShloMosaic Finset

/-- Row `r` of a matrix of extended reals as a function of every natural column, zero past the last column. -/
def row {n0 n1 : ℕ} (X : (⟨2, ![n0, n1]⟩ : Shape).Idx → EReal) (r : Fin n0) (p : ℕ) : EReal :=
  if h : p < n1 then X (ix2 r ⟨p, h⟩) else 0

/-- Inside the matrix `row` is the entry. -/
theorem row_of_lt {n0 n1 : ℕ} (X : (⟨2, ![n0, n1]⟩ : Shape).Idx → EReal) (r : Fin n0) {p : ℕ} (h : p < n1) :
    row X r p = X (ix2 r ⟨p, h⟩) := dif_pos h

section
variable {M : Type*} [AddCommMonoid M]

/-- A left fold that adds `g 0, g 1, …` to `a` is `a` plus their sum. -/
theorem foldl_add (N : ℕ) (g : Fin N → M) (a : M) : (List.finRange N).foldl (fun s n => s + g n) a = a + ∑ n, g n := by
  have h : ∀ (l : List (Fin N)) (a : M), l.foldl (fun s n => s + g n) a = a + (l.map g).sum := by
    intro l
    induction l with
    | nil => intro a; simp
    | cons x l ih => intro a; rw [List.foldl_cons, ih, List.map_cons, List.sum_cons, add_assoc]
  rw [h, Fin.sum_univ_def]

/-- A window of `m + 1` columns that ends at column `q`, the columns before the first one read as zero, sums the
    columns `0 … q`. -/
theorem window_sum (m q : ℕ) (hq : q ≤ m) (g : ℕ → M) :
    ∑ w : Fin (m + 1), (if m ≤ q + w.val then g (q + w.val - m) else 0) = ∑ p ∈ range (q + 1), g p := by
  rw [Fin.sum_univ_eq_sum_range (fun w => if m ≤ q + w then g (q + w - m) else 0) (m + 1),
    show m + 1 = (m - q) + (q + 1) by omega, sum_range_add]
  rw [sum_eq_zero (fun w hw => if_neg (by have := mem_range.1 hw; omega)), zero_add]
  refine sum_congr rfl fun p _ => ?_
  rw [if_pos (by omega)]
  exact congrArg g (by omega)

/-- `n` consecutive runs of `K` columns are the first `K * n` columns. -/
theorem sum_runs (K n : ℕ) (f : ℕ → M) :
    ∑ k ∈ range n, ∑ l ∈ range K, f (K * k + l) = ∑ p ∈ range (K * n), f p := by
  induction n with
  | zero => simp
  | succ n ih => rw [sum_range_succ, ih, Nat.mul_succ, sum_range_add]

/-- The sum over the columns below `n` that satisfy `k < l`, for `l ≤ n`. -/
theorem sum_ite_lt (n l : ℕ) (hl : l ≤ n) (g : ℕ → M) :
    ∑ k : Fin n, (if k.val < l then g k.val else 0) = ∑ k ∈ range l, g k := by
  rw [Fin.sum_univ_eq_sum_range (fun k => if k < l then g k else 0) n, ← sum_filter]
  refine sum_congr (ext fun k => ?_) fun _ _ => rfl
  rw [mem_filter, mem_range, mem_range]; omega

end

/-- A product with a strictly upper triangular 0/1 column: the exclusive prefix sum. -/
theorem sum_mul_lt (n l : ℕ) (hl : l ≤ n) (g : ℕ → EReal) :
    ∑ k : Fin n, g k.val * (if k.val < l then (1 : EReal) else 0) = ∑ k ∈ range l, g k := by
  rw [← sum_ite_lt n l hl g]
  refine sum_congr rfl fun k _ => ?_
  split <;> simp

/-- A product of `C, T 0, T 1, …` with the 0/1 column that selects the rows up to `i`: `C` plus the first `i` of the `T`s. -/
theorem sum_mul_le (n i : ℕ) (hi : i < n) (C : EReal) (T : ℕ → EReal) :
    ∑ k : Fin n, (if k.val < 1 then C else T (k.val - 1)) * (if k.val ≤ i then (1 : EReal) else 0)
      = C + ∑ k ∈ range i, T k := by
  have h := sum_mul_lt n (i + 1) hi (fun k => if k < 1 then C else T (k - 1))
  rw [sum_range_succ'] at h
  simp only [show ∀ k : ℕ, (k < i + 1) = (k ≤ i) from fun k => propext Nat.lt_succ_iff] at h
  rw [h, add_comm]
  simp

/-- A run of columns between the first `b` and the first `b + l`. -/
theorem prefix_add (f : ℕ → EReal) (b l : ℕ) :
    ∑ p ∈ range b, f p + ∑ p ∈ range l, f (b + p) = ∑ p ∈ range (b + l), f p := (sum_range_add f b l).symm

end Cert.Scan

end
-- ==== Proof.Block.lean ====
/-
  What the kernel's payloads compute, read at an entry over the extended reals: the two masks, the totals of the runs
  of 128 columns, the offset in front of each run, and one stored tile.
-/
module

public import proofs.«01_k».proof.Proof.Gen.KernelIdeal.Value
public import proofs.«01_k».proof.Proof.Scan
public import Idealize.ShloMosaic.Lib.Pointwise
public import Idealize.ShloMosaic.Lib.Routing.Words
public import Idealize.ShloMosaic.Lib.Pipeline.ValueKit

@[expose] public section

set_option maxRecDepth 16384

noncomputable section

namespace Cert.Block

open Idealize.ShloMosaic Cert.KernelIdeal Cert.KernelIdeal.Gen Cert.Scan

/-- The word of a truth value, read as a float: one or zero. -/
theorem sitofp_bool (p : Prop) [Decidable p] :
    (FloatOps.sitofp (F := Ideal) FTy.f32 (BitVec.setWidth 32 (BitVec.ofBool (decide p))) : EReal) = if p then 1 else 0 := by
  have h1 : (((1 : ℤ) : ℝ) : EReal) = 1 := by simp
  have h0 : (((0 : ℤ) : ℝ) : EReal) = 0 := by simp
  by_cases h : p
  · rw [if_pos h, decide_eq_true h]; exact h1
  · rw [if_neg h, decide_eq_false h]; exact h0

/-- The correction of the rounded-down quotient is never taken: a positive column has the divisor's sign, column zero
    leaves no remainder. -/
theorem no_correction (j : ℕ) (hj : j < 8192) :
    IntOp.andi
      (IntOp.cmpi CmpIPredicate.ne
        (IntOp.subi (BitVec.setWidth 32 (IntOp.cmpi CmpIPredicate.sgt (BitVec.ofNat 32 j) 0#32))
          (BitVec.setWidth 32 (IntOp.cmpi CmpIPredicate.slt (BitVec.ofNat 32 j) 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector (BitVec.ofNat 32 j) 128#32) 0#32) = 0#1 := by
  rcases Nat.eq_zero_or_pos j with h | h
  · subst h; decide
  · have hg : IntOp.cmpi CmpIPredicate.sgt (BitVec.ofNat 32 j) 0#32 = 1#1 := by
      rw [show (0#32 : BitVec 32) = BitVec.ofNat 32 0 from rfl, WordCmp.cmpi_sgt_ofNat (by omega) (by omega), decide_eq_true h]
      rfl
    have hl : IntOp.cmpi CmpIPredicate.slt (BitVec.ofNat 32 j) 0#32 = 0#1 := by
      rw [show (0#32 : BitVec 32) = BitVec.ofNat 32 0 from rfl, WordCmp.cmpi_slt_ofNat (by omega) (by omega),
        decide_eq_false (Nat.not_lt_zero j)]
      rfl
    rw [hg, hl]
    generalize IntOp.cmpi CmpIPredicate.ne (IntOp.remsi ArithUnit.vector (BitVec.ofNat 32 j) 128#32) 0#32 = b
    revert b
    decide

/-- Mask entry `(k, j)`: one when run `k` is not after the run column `j` lies in. -/
theorem mask_apply (k : Fin 64) (j : Fin 8192) :
    k0_pay5 (F := Ideal) (ix2 k j) = if k.val ≤ j.val / 128 then 1 else 0 := by
  have hj := j.isLt
  have hk := k.isLt
  pointwise [k0_pay5]
  rw [no_correction j.val hj, show IntOp.divsi ArithUnit.vector (BitVec.ofNat 32 j.val) 128#32 = BitVec.ofNat 32 (j.val / 128)
    from Routing.divsi_word ArithUnit.vector (a := j.val) (b := 128) (by omega) (by omega) (by omega)]
  rw [show ∀ a b : BitVec 32, Scalar.select 0#1 a b = b from fun _ _ => rfl, WordCmp.cmpi_sle_ofNat (by omega) (by omega)]
  exact sitofp_bool _

/-- Triangle entry `(k, l)`: one when `k < l`. -/
theorem tri_apply (k l : Fin 128) : k0_pay6 (F := Ideal) (ix2 k l) = if k.val < l.val then 1 else 0 := by
  have hk := k.isLt
  have hl := l.isLt
  pointwise [k0_pay6]
  rw [WordCmp.cmpi_slt_ofNat (by omega) (by omega)]
  exact sitofp_bool _

/-- The reset carry is zero. -/
theorem reset_apply (r : Fin 128) : k0_pay4 (F := Ideal) (ix2 r (0 : Fin 1)) = 0 := by
  pointwise [k0_pay4]

/-- The next carry: the carry plus the sum of the row's totals. -/
theorem next_apply (c : FVec Ideal S128x1 .f32) (T : FVec Ideal S128x64 .f32) (r : Fin 128) :
    k0_pay3 (F := Ideal) c T (ix2 r (0 : Fin 1)) = c (ix2 r (0 : Fin 1)) + ∑ k : Fin 64, T (ix2 r k) := by
  pointwise [k0_pay3]

/-- The sums of the rows of the 128 columns that start at column `o`, as a column. -/
def total (x0 : FVec Ideal S128x8192 .f32) (o : ℕ) (h : S128x8192.Slices ![0, o] S128x128) : FVec Ideal S128x1 .f32 :=
  shapeCast S128x1 (multiReduction .add [1] S128 (extractStridedSlice S128x128 ![0, o] x0 h) 0x00000000#32
    reduces_S128x128_S128 (.inl rfl) rfl) shapeCasts_S128_S128x1

/-- `total` at row `r`. -/
theorem total_apply (x0 : FVec Ideal S128x8192 .f32) (o : ℕ) (ho : o + 128 ≤ 8192) (h : S128x8192.Slices ![0, o] S128x128)
    (r : Fin 128) : total x0 o h (ix2 r (0 : Fin 1)) = ∑ l ∈ Finset.range 128, row x0 r (o + l) := by
  rw [← Fin.sum_univ_eq_sum_range (fun l => row x0 r (o + l)) 128]
  pointwise [total]
  exact Finset.sum_congr rfl fun l _ => (row_of_lt x0 r _).symm

/-- One stored tile: 128 columns of the block times the triangle, plus the offsets of the same columns. -/
def tile (x0 off : FVec Ideal S128x8192 .f32) (tri : FVec Ideal S128x128 .f32) (o : ℕ)
    (h : S128x8192.Slices ![0, o] S128x128) : FVec Ideal S128x128 .f32 :=
  addf (matmul dot_S128x128_S128x128_S128x128_1_0_0_1_n_n none (extractStridedSlice S128x128 ![0, o] x0 h) tri
    (constant S128x128 .f32 0x00000000#32)) (extractStridedSlice S128x128 ![0, o] off h)

/-- `tile` at row `r`, column `l`, the triangle being the kernel's. -/
theorem tile_apply (x0 off : FVec Ideal S128x8192 .f32) (o : ℕ) (ho : o + 128 ≤ 8192)
    (h : S128x8192.Slices ![0, o] S128x128) (r l : Fin 128) :
    tile x0 off (k0_pay6 (F := Ideal)) o h (ix2 r l)
      = (∑ k ∈ Finset.range l.val, row x0 r (o + k)) + off (ix2 r ⟨o + l.val, by omega⟩) := by
  rw [← sum_mul_lt 128 l.val l.isLt.le (fun k => row x0 r (o + k))]
  pointwise [tile]
  refine congrArg (· + _) (Finset.sum_congr rfl fun k _ => ?_)
  rw [tri_apply, row_of_lt x0 r (by have := k.isLt; omega)]

/-- The offsets: the carry joined with the totals but the last, times the mask. -/
def offs (c : FVec Ideal S128x1 .f32) (T : FVec Ideal S128x64 .f32) (M : FVec Ideal S64x8192 .f32) :
    FVec Ideal S128x8192 .f32 :=
  matmul dot_S128x64_S64x8192_S128x8192_1_0_0_1_n_n none
    (concatenate S128x64 1 [⟨S128x1, c⟩, ⟨S128x63, extractStridedSlice S128x63 ![0, 0] T slices_S128x64_o0_0_S128x63⟩]
      concatenates_S128x1_S128x63_S128x64_d1) M (constant S128x8192 .f32 0x00000000#32)

/-- `offs` at row `r`, column `j`, the mask being the kernel's: the carry plus the totals of the runs before column `j`'s. -/
theorem offs_apply (c : FVec Ideal S128x1 .f32) (T : FVec Ideal S128x64 .f32) (g : ℕ → EReal) (r : Fin 128)
    (hT : ∀ k : Fin 64, T (ix2 r k) = g k.val) (j : Fin 8192) :
    offs c T (k0_pay5 (F := Ideal)) (ix2 r j) = c (ix2 r (0 : Fin 1)) + ∑ k ∈ Finset.range (j.val / 128), g k := by
  rw [← sum_mul_le 64 (j.val / 128) (by have := j.isLt; omega) (c (ix2 r (0 : Fin 1))) g]
  pointwise [offs]
  refine congrArg₂ (· + ·) ?_ (Finset.sum_congr rfl fun k _ => ?_)
  · refine Finset.sum_congr rfl fun k _ => ?_
    rw [mask_apply]
    exact (congrArg _ (if_pos (Nat.zero_le _))).trans (mul_one _)
  · rw [mask_apply]
    exact congrArg (· * _) (hT _)

/-- Every run of 128 columns lies in the block. -/
theorem run_slices (i : Fin 64) : S128x8192.Slices ![0, 128 * i.val] S128x128 := by
  revert i; decide

/-- Sixty-four columns side by side make the array of totals. -/
theorem runs_concatenate (f : Fin 64 → FVec Ideal S128x1 .f32) :
    Shape.Concatenates ((List.ofFn fun i : Fin 64 => (⟨S128x1, f i⟩ : (s : Shape) × (s.Idx → EReal))).map (·.1)) S128x64 1 := by
  rw [List.map_ofFn]
  exact (by decide : Shape.Concatenates (List.ofFn fun _ : Fin 64 => S128x1) S128x64 1)

/-- The totals of the 64 runs of 128 columns, side by side, as one family. -/
def totals (x0 : FVec Ideal S128x8192 .f32) : FVec Ideal S128x64 .f32 :=
  concatenate S128x64 1 (List.ofFn fun i : Fin 64 => (⟨S128x1, total x0 (128 * i.val) (run_slices i)⟩ : (s : Shape) × (s.Idx → EReal)))
    (runs_concatenate _)

/-- `totals` at row `r`, run `k`. -/
theorem totals_apply (x0 : FVec Ideal S128x8192 .f32) (r : Fin 128) (k : Fin 64) :
    totals x0 (ix2 r k) = ∑ l ∈ Finset.range 128, row x0 r (128 * k.val + l) := by
  have hk := k.isLt
  rw [← total_apply x0 (128 * k.val) (by omega) (run_slices k) r]
  refine concatenate_ofFn_apply (s₁ := S128x1) (t := S128x64) 1 (fun i : Fin 64 => total x0 (128 * i.val) (run_slices i)) _ rfl
    1 rfl (ix2 r k) k (Nat.div_one _) (ix2 r (0 : Fin 1)) (Nat.mod_one _).symm fun b => ?_
  match b with
  | ⟨0, _⟩ => exact fun _ => rfl
  | ⟨1, _⟩ => exact fun h => absurd rfl h

/-- The kernel's own 64 sums, joined, are `totals`. -/
theorem totals_eq (x0 : FVec Ideal S128x8192 .f32) :
  k0_pay67 (F := Ideal) x0
    (k0_pay7 x0) (k0_pay8 x0) (k0_pay9 x0) (k0_pay10 x0) (k0_pay11 x0) (k0_pay12 x0) (k0_pay13 x0) (k0_pay14 x0)
    (k0_pay15 x0) (k0_pay16 x0) (k0_pay17 x0) (k0_pay19 (k0_pay18 x0)) (k0_pay20 x0) (k0_pay21 x0) (k0_pay22 x0)
    (k0_pay23 x0) (k0_pay24 x0) (k0_pay25 x0) (k0_pay26 x0) (k0_pay27 x0) (k0_pay28 x0) (k0_pay29 x0) (k0_pay30 x0)
    (k0_pay31 x0) (k0_pay32 x0) (k0_pay33 x0) (k0_pay35 (k0_pay34 x0)) (k0_pay36 x0) (k0_pay37 x0) (k0_pay38 x0)
    (k0_pay39 x0) (k0_pay40 x0) (k0_pay41 x0) (k0_pay42 x0) (k0_pay43 x0) (k0_pay44 x0) (k0_pay45 x0) (k0_pay46 x0)
    (k0_pay47 x0) (k0_pay48 x0) (k0_pay49 x0) (k0_pay51 (k0_pay50 x0)) (k0_pay52 x0) (k0_pay53 x0) (k0_pay54 x0)
    (k0_pay55 x0) (k0_pay56 x0) (k0_pay57 x0) (k0_pay58 x0) (k0_pay59 x0) (k0_pay60 x0) (k0_pay61 x0) (k0_pay62 x0)
    (k0_pay63 x0) (k0_pay64 x0) (k0_pay65 x0) (k0_pay66 x0)
    = totals x0 := rfl

/-- The kernel's offsets at row `r`, column `j`: the carry plus the row's entries in the runs before column `j`'s. -/
theorem offsets_apply (x0 : FVec Ideal S128x8192 .f32) (c : FVec Ideal S128x1 .f32) (M : FVec Ideal S64x8192 .f32)
    (hM : M = k0_pay5 (F := Ideal)) (r : Fin 128) (j : Fin 8192) :
  k0_pay68 (F := Ideal) x0 c
    (k0_pay7 x0) (k0_pay8 x0) (k0_pay9 x0) (k0_pay10 x0) (k0_pay11 x0) (k0_pay12 x0) (k0_pay13 x0) (k0_pay14 x0)
    (k0_pay15 x0) (k0_pay16 x0) (k0_pay17 x0) (k0_pay19 (k0_pay18 x0)) (k0_pay20 x0) (k0_pay21 x0) (k0_pay22 x0)
    (k0_pay23 x0) (k0_pay24 x0) (k0_pay25 x0) (k0_pay26 x0) (k0_pay27 x0) (k0_pay28 x0) (k0_pay29 x0) (k0_pay30 x0)
    (k0_pay31 x0) (k0_pay32 x0) (k0_pay33 x0) (k0_pay35 (k0_pay34 x0)) (k0_pay36 x0) (k0_pay37 x0) (k0_pay38 x0)
    (k0_pay39 x0) (k0_pay40 x0) (k0_pay41 x0) (k0_pay42 x0) (k0_pay43 x0) (k0_pay44 x0) (k0_pay45 x0) (k0_pay46 x0)
    (k0_pay47 x0) (k0_pay48 x0) (k0_pay49 x0) (k0_pay51 (k0_pay50 x0)) (k0_pay52 x0) (k0_pay53 x0) (k0_pay54 x0)
    (k0_pay55 x0) (k0_pay56 x0) (k0_pay57 x0) (k0_pay58 x0) (k0_pay59 x0) (k0_pay60 x0) (k0_pay61 x0) (k0_pay62 x0)
    (k0_pay63 x0) (k0_pay64 x0) (k0_pay65 x0) (k0_pay66 x0)
    M (ix2 r j)
    = c (ix2 r (0 : Fin 1)) + ∑ k ∈ Finset.range (j.val / 128), ∑ l ∈ Finset.range 128, row x0 r (128 * k + l) := by
  subst hM
  refine Eq.trans (congrFun (a := ix2 r j) ?_) (offs_apply c (totals x0)
    (fun k => ∑ l ∈ Finset.range 128, row x0 r (128 * k + l)) r (fun k => totals_apply x0 r k) j)
  unfold k0_pay68
  rw [totals_eq]
  rfl

/-- The kernel's next carry at row `r`: the carry plus the sum of the block's row. -/
theorem carry_apply (x0 : FVec Ideal S128x8192 .f32) (c : FVec Ideal S128x1 .f32) (r : Fin 128) :
  k0_pay3 (F := Ideal) c (k0_pay67 (F := Ideal) x0
    (k0_pay7 x0) (k0_pay8 x0) (k0_pay9 x0) (k0_pay10 x0) (k0_pay11 x0) (k0_pay12 x0) (k0_pay13 x0) (k0_pay14 x0)
    (k0_pay15 x0) (k0_pay16 x0) (k0_pay17 x0) (k0_pay19 (k0_pay18 x0)) (k0_pay20 x0) (k0_pay21 x0) (k0_pay22 x0)
    (k0_pay23 x0) (k0_pay24 x0) (k0_pay25 x0) (k0_pay26 x0) (k0_pay27 x0) (k0_pay28 x0) (k0_pay29 x0) (k0_pay30 x0)
    (k0_pay31 x0) (k0_pay32 x0) (k0_pay33 x0) (k0_pay35 (k0_pay34 x0)) (k0_pay36 x0) (k0_pay37 x0) (k0_pay38 x0)
    (k0_pay39 x0) (k0_pay40 x0) (k0_pay41 x0) (k0_pay42 x0) (k0_pay43 x0) (k0_pay44 x0) (k0_pay45 x0) (k0_pay46 x0)
    (k0_pay47 x0) (k0_pay48 x0) (k0_pay49 x0) (k0_pay51 (k0_pay50 x0)) (k0_pay52 x0) (k0_pay53 x0) (k0_pay54 x0)
    (k0_pay55 x0) (k0_pay56 x0) (k0_pay57 x0) (k0_pay58 x0) (k0_pay59 x0) (k0_pay60 x0) (k0_pay61 x0) (k0_pay62 x0)
    (k0_pay63 x0) (k0_pay64 x0) (k0_pay65 x0) (k0_pay66 x0))
    (ix2 r (0 : Fin 1)) = c (ix2 r (0 : Fin 1)) + ∑ p ∈ Finset.range 8192, row x0 r p := by
  rw [totals_eq, next_apply]
  simp only [totals_apply]
  rw [Fin.sum_univ_eq_sum_range (fun k => ∑ l ∈ Finset.range 128, row x0 r (128 * k + l)) 64,
    sum_runs 128 64 (row x0 r)]

/-- A stored tile at its entry `x`, the triangle being the kernel's and the offsets the kernel's: the carry plus the row's
    entries before the column the entry is stored at. -/
theorem tile_value (x0 off : FVec Ideal S128x8192 .f32) (tri : FVec Ideal S128x128 .f32) (o : ℕ)
    (h : S128x8192.Slices ![0, o] S128x128) (x : S128x128.Idx) (y : S128x8192.Idx) (C : EReal)
    (htri : tri = k0_pay6 (F := Ideal)) (h0 : (y 0).val = (x 0).val) (h1 : (y 1).val = o + (x 1).val) (ho : o % 128 = 0)
    (hoff : ∀ j : Fin 8192, off (ix2 (y 0) j)
      = C + ∑ k ∈ Finset.range (j.val / 128), ∑ l ∈ Finset.range 128, row x0 (y 0) (128 * k + l)) :
    tile x0 off tri o h x = C + ∑ p ∈ Finset.range (y 1).val, row x0 (y 0) p := by
  have y1 : (y 1).val < 8192 := (y 1).isLt
  have x1 : (x 1).val < 128 := (x 1).isLt
  have e0 : x 0 = y 0 := Fin.ext h0.symm
  have hd : (o + (x 1).val) / 128 = o / 128 := by omega
  have hm : 128 * (o / 128) = o := by omega
  subst htri
  rw [eq_ix2 x, e0]
  refine (tile_apply x0 off o (by omega) h (y 0) (x 1)).trans ?_
  rw [hoff, hd, sum_runs 128 (o / 128) (row x0 (y 0)), hm, h1, ← prefix_add (row x0 (y 0)) o (x 1).val]
  rw [add_comm, add_assoc]

end Cert.Block

end
-- ==== Proof.Carry.lean ====
/-
  What the carried scratch and the output block hold after each grid point.
-/
module

public import proofs.«01_k».proof.Proof.Block

@[expose] public section

set_option maxRecDepth 16384

noncomputable section

namespace Cert.Carry

open Idealize.ShloMosaic Cert.KernelIdeal Cert.KernelIdeal.Gen Cert.KernelIdeal.Value Cert.Scan Cert.Block

variable (m : (ℓ : Loc nD τ sig) → Buf (Elt Ideal) ℓ)

/-- The argument's contents on a device. -/
abbrev arg (c : Dev nD) : FVec Ideal S128x32768 .f32 := m ((c.tc : Thread nD τ).loc main_arg0)

/-- The block of the argument point `t` reads: all rows, run `t` of 8192 columns. -/
theorem idx : ∀ t : Fin cfg0.N, win0_0.index t = ![0, t.val] := (by decide +kernel : ∀ t : Fin grid0.N, _)

/-- Block `t` of the argument, read at an entry. -/
theorem block_apply (c : Dev nD) (t : Fin cfg0.N) (r : Fin 128) (p : ℕ) (hp : p < 8192) :
    row (iblk m c 0 t) r p = row (arg m c) r (8192 * t.val + p) := by
  have ht : t.val < 4 := lt_of_lt_of_eq t.isLt N_0
  rw [row_of_lt (iblk m c 0 t) r hp, row_of_lt (arg m c) r (by omega)]
  blk_ext [iblk, V, idx t]

/-- What a later point's output block holds, over the carry and the masks the point before left. -/
theorem outB (c : Dev nD) (t : Fin cfg0.N) (h0 : ¬ t.val % 4 = 0) (h1 : t.val - 1 < cfg0.N)
    (hM : (outsAt0 m c (t.val - 1) h1).2.2.1 = k0_pay5 (F := Ideal))
    (hT : (outsAt0 m c (t.val - 1) h1).2.2.2 = k0_pay6 (F := Ideal)) (y : S128x8192.Idx) :
    (outsAt0 m c t.val t.isLt).1 y
      = (outsAt0 m c (t.val - 1) h1).2.1 (ix2 (y 0) (0 : Fin 1)) + ∑ p ∈ Finset.range (y 1).val, row (iblk m c 0 t) (y 0) p := by
  rw [outsAt0_B m c t h0]
  revert hM hT
  generalize outsAt0 m c (t.val - 1) h1 = prev
  obtain ⟨_, C, M, T⟩ := prev
  dsimp only
  rintro rfl rfl
  frame_out
  canon_tiles x h
  all_goals
    refine tile_value _ _ _ _ _ x y _ (Memref.IsWhole.read_unread _ _) ‹_› (by omega) (by decide) fun j =>
      (offsets_apply _ _ _ (Memref.IsWhole.read_unread _ _) (y 0) j).trans ?_
    exact congrArg (· + _) (congrFun (Memref.IsWhole.read_unread _ _) _)

/-- What a first point's output block holds. -/
theorem outA (c : Dev nD) (t : Fin cfg0.N) (h0 : t.val % 4 = 0) (y : S128x8192.Idx) :
    (outsAt0 m c t.val t.isLt).1 y = 0 + ∑ p ∈ Finset.range (y 1).val, row (iblk m c 0 t) (y 0) p := by
  rw [outsAt0_A m c t h0]
  frame_out
  canon_tiles x h
  all_goals
    refine tile_value _ _ _ _ _ x y _ rfl ‹_› (by omega) (by decide) fun j => (offsets_apply _ _ _ rfl (y 0) j).trans ?_
    exact congrArg (· + _) (reset_apply _)

/-- The carry a later point leaves. -/
theorem scratchB (c : Dev nD) (t : Fin cfg0.N) (h0 : ¬ t.val % 4 = 0) (h1 : t.val - 1 < cfg0.N) (r : Fin 128) :
    (outsAt0 m c t.val t.isLt).2.1 (ix2 r (0 : Fin 1))
      = (outsAt0 m c (t.val - 1) h1).2.1 (ix2 r (0 : Fin 1)) + ∑ p ∈ Finset.range 8192, row (iblk m c 0 t) r p := by
  rw [outsAt0_B m c t h0]
  generalize outsAt0 m c (t.val - 1) h1 = prev
  frame_out
  rw [carry_apply]
  exact congrArg (· + _) (congrFun (Memref.IsWhole.read_unread _ _) _)

/-- A later point leaves the two masks as they were. -/
theorem maskB (c : Dev nD) (t : Fin cfg0.N) (h0 : ¬ t.val % 4 = 0) (h1 : t.val - 1 < cfg0.N) :
    (outsAt0 m c t.val t.isLt).2.2 = (outsAt0 m c (t.val - 1) h1).2.2 := by
  rw [outsAt0_B m c t h0]
  rfl

/-- The carry a first point leaves. -/
theorem scratchA (c : Dev nD) (t : Fin cfg0.N) (h0 : t.val % 4 = 0) (r : Fin 128) :
    (outsAt0 m c t.val t.isLt).2.1 (ix2 r (0 : Fin 1)) = 0 + ∑ p ∈ Finset.range 8192, row (iblk m c 0 t) r p := by
  rw [outsAt0_A m c t h0]
  frame_out
  rw [carry_apply, reset_apply]

/-- A first point leaves the two masks it builds. -/
theorem maskA (c : Dev nD) (t : Fin cfg0.N) (h0 : t.val % 4 = 0) :
    (outsAt0 m c t.val t.isLt).2.2 = (k0_pay5 (F := Ideal), k0_pay6 (F := Ideal)) := by
  rw [outsAt0_A m c t h0]
  refine Prod.ext (funext fun y => ?_) (funext fun y => ?_)
  · frame_out
  · frame_out

/-- The first `k` entries of block `t`'s row are the argument row's entries from column `8192 t` on. -/
theorem block_sum (c : Dev nD) (t : Fin cfg0.N) (r : Fin 128) (k : ℕ) (hk : k ≤ 8192) :
    ∑ p ∈ Finset.range k, row (iblk m c 0 t) r p = ∑ p ∈ Finset.range k, row (arg m c) r (8192 * t.val + p) :=
  Finset.sum_congr rfl fun p hp => block_apply m c t r p (lt_of_lt_of_le (Finset.mem_range.1 hp) hk)

/-- After point `n` the masks are the kernel's and the carry is the sum of the row's columns in the blocks `0 … n`. -/
theorem scratch_value (c : Dev nD) : ∀ (n : ℕ) (hn : n < cfg0.N),
    (outsAt0 m c n hn).2.2 = (k0_pay5 (F := Ideal), k0_pay6 (F := Ideal))
      ∧ ∀ r : Fin 128, (outsAt0 m c n hn).2.1 (ix2 r (0 : Fin 1)) = ∑ p ∈ Finset.range (8192 * n + 8192), row (arg m c) r p
  | 0, hn => by
    refine ⟨maskA m c ⟨0, hn⟩ rfl, fun r => ?_⟩
    rw [← prefix_add (row (arg m c) r) (8192 * 0) 8192]
    exact (scratchA m c ⟨0, hn⟩ rfl r).trans (congrArg (0 + ·) (block_sum m c ⟨0, hn⟩ r 8192 le_rfl))
  | n + 1, hn => by
    have h4 : n + 1 < 4 := lt_of_lt_of_eq hn N_0
    have h0 : ¬ (n + 1) % 4 = 0 := by omega
    obtain ⟨hm, hc⟩ := scratch_value c n (Nat.lt_of_succ_lt hn)
    refine ⟨(maskB m c ⟨n + 1, hn⟩ h0 (Nat.lt_of_succ_lt hn)).trans hm, fun r => ?_⟩
    rw [← prefix_add (row (arg m c) r) (8192 * (n + 1)) 8192]
    refine (scratchB m c ⟨n + 1, hn⟩ h0 (Nat.lt_of_succ_lt hn) r).trans ?_
    exact congrArg₂ (· + ·) (hc r) (block_sum m c ⟨n + 1, hn⟩ r 8192 le_rfl)

/-- The output block point `n` writes: at each entry the sum of the row's columns before it. -/
theorem block_value (c : Dev nD) (n : ℕ) (hn : n < cfg0.N) (y : S128x8192.Idx) :
    (outsAt0 m c n hn).1 y = ∑ p ∈ Finset.range (8192 * n + (y 1).val), row (arg m c) (y 0) p := by
  have y1 : (y 1).val < 8192 := (y 1).isLt
  rw [← prefix_add (row (arg m c) (y 0)) (8192 * n) (y 1).val]
  cases n with
  | zero =>
    exact (outA m c ⟨0, hn⟩ rfl y).trans (congrArg (0 + ·) (block_sum m c ⟨0, hn⟩ (y 0) _ y1.le))
  | succ n =>
    have h4 : n + 1 < 4 := lt_of_lt_of_eq hn N_0
    have h0 : ¬ (n + 1) % 4 = 0 := by omega
    obtain ⟨hm, hc⟩ := scratch_value m c n (Nat.lt_of_succ_lt hn)
    refine (outB m c ⟨n + 1, hn⟩ h0 (Nat.lt_of_succ_lt hn) (congrArg Prod.fst hm) (congrArg Prod.snd hm) y).trans ?_
    exact congrArg₂ (· + ·) (hc (y 0)) (block_sum m c ⟨n + 1, hn⟩ (y 0) _ y1.le)

/-- The kernel's result: at each entry the sum of the row's entries before it. -/
theorem result_value (c : Dev nD) (r : Fin 128) (j : Fin 32768) :
    G1 m c (ix2 r j) = ∑ p ∈ Finset.range j.val, row (arg m c) r p := by
  have hj := j.isLt
  have hp : pt1Of (ix2 r j) = j.val / 8192 := by
    have hr := r.isLt
    show 4 * (r.val / 128 - 0) + 1 * (j.val / 8192 - 0) = j.val / 8192
    omega
  have hn : pt1Of (ix2 r j) < cfg0.N := by rw [hp]; exact lt_of_lt_of_eq (by omega) N_0.symm
  unfold G1
  rw [dif_pos hn, ← outsAt0_sweep m c _ hn, block_value m c _ hn, hp]
  have e0 : loc1Of (ix2 r j) 0 = r := Fin.ext (Nat.mod_eq_of_lt r.isLt)
  have e1 : 8192 * (j.val / 8192) + (loc1Of (ix2 r j) 1).val = j.val := Nat.div_add_mod j.val 8192
  rw [e0, e1]

end Cert.Carry

end
-- ==== Proof.RefSum.lean ====
/-
  What the reference computes, read at an entry: the sum of the row's earlier entries.
-/
module

public import proofs.«01_k».proof.Proof.Gen.ReferenceIdeal.Run
public import proofs.«01_k».proof.Proof.Scan
public import Idealize.ShloMosaic.Lib.Pointwise

@[expose] public section

set_option maxRecDepth 16384

noncomputable section

namespace Cert.RefSum

open Idealize.ShloMosaic Cert.ReferenceIdeal Cert.ReferenceIdeal.Gen Cert.Scan

/-- The sum over windows of `m + 1` columns of a matrix of `m + 1` columns, `m` columns of zeros before it, read at an
    entry: the window that ends at column `q` sums the columns `0 … q`. -/
theorem window_apply (n0 m : ℕ) (x : (⟨2, ![n0, m + 1]⟩ : Shape).Idx → EReal)
    (h : (⟨2, ![n0, m + 1]⟩ : Shape).ReduceWindows ![1, m + 1] ![1, 1] ![0, m] ![0, 0] ⟨2, ![n0, m + 1]⟩)
    (r : Fin n0) (q : Fin (m + 1)) :
    Ideal.hostReduceWindowAdd ![1, m + 1] ![1, 1] ![0, m] ![0, 0] h x 0 (ix2 r q)
      = ∑ p ∈ Finset.range (q.val + 1), row x r p := by
  unfold Ideal.hostReduceWindowAdd Host.reduceWindow
  dsimp only
  rw [foldl_add, zero_add]
  refine Eq.trans ?_ ((Equiv.sum_comp (Shape.rowMajor (⟨2, ![1, m + 1]⟩ : Shape)).symm
    (fun w : (⟨2, ![1, m + 1]⟩ : Shape).Idx =>
      if m ≤ q.val + (w 1).val then row x r (q.val + (w 1).val - m) else 0)).trans ?_)
  · refine Finset.sum_congr rfl fun n _ => ?_
    let w : (⟨2, ![1, m + 1]⟩ : Shape).Idx := (Shape.rowMajor (⟨2, ![1, m + 1]⟩ : Shape)).symm n
    change _ = if m ≤ q.val + (w 1).val then row x r (q.val + (w 1).val - m) else 0
    have w0 : (w 0).val = 0 := Nat.lt_one_iff.1 (w 0).isLt
    have w1 : (w 1).val < m + 1 := (w 1).isLt
    have hr := r.isLt
    have hq := q.isLt
    split
    · next hin =>
      have h1 : m ≤ q.val * 1 + (w 1).val := (hin 1).1
      rw [if_pos (by omega), row_of_lt x r (by omega)]
      congr 1
      funext a
      match a with
      | ⟨0, _⟩ => exact Fin.ext (show r.val * 1 + (w 0).val - 0 = r.val by omega)
      | ⟨1, _⟩ => exact Fin.ext (show q.val * 1 + (w 1).val - m = q.val + (w 1).val - m by omega)
    · next hin =>
      rw [if_neg]
      intro hm
      refine hin fun a => ?_
      match a with
      | ⟨0, _⟩ => exact (show 0 ≤ r.val * 1 + (w 0).val ∧ r.val * 1 + (w 0).val - 0 < n0 by omega)
      | ⟨1, _⟩ => exact (show m ≤ q.val * 1 + (w 1).val ∧ q.val * 1 + (w 1).val - m < m + 1 by omega)
  · rw [sum_idx2, Fin.sum_univ_one]
    exact window_sum m q.val (Nat.le_of_lt_succ q.isLt) (row x r)

/-- The running sum along the rows, read at an entry: the columns `0 … q`. -/
theorem cumsum_apply (x : FVec Ideal S128x32767 .f32) (v : FVec Ideal S_ .f32) (hv : v (Shape.Idx.first h_S_) = 0)
    (r : Fin 128) (q : Fin 32767) :
    Host.reduceWindowAdd (F := Ideal) ![1, 32767] ![1, 1] ![0, 32766] ![0, 0] x v
      reduceWindows_S128x32767_S128x32767_w1s1p0_0_w32767s1p32766_0 h_S_ (ix2 r q)
      = ∑ p ∈ Finset.range (q.val + 1), row x r p := by
  unfold Host.reduceWindowAdd
  rw [Ideal.hostReduceWindowAdd_def, hv]
  exact window_apply 128 32766 x _ r q

/-- The reference's result as a function of its argument. -/
def ref (X : FVec Ideal S128x32768 .f32) : FVec Ideal S128x32768 .f32 :=
  concatenate S128x32768 1 [⟨S128x1, broadcastInDim S128x1 ![] bcast_S_S128x1 (constant (F := Ideal) S_ .f32 0x00000000#32)⟩,
    ⟨S128x32767, Host.reduceWindowAdd ![1, 32767] ![1, 1] ![0, 32766] ![0, 0]
      (extractStridedSlice S128x32767 ![0, 0] X slices_S128x32768_S128x32767_0_0)
      (broadcastInDim S_ ![] bcast_S_S_ (constant (F := Ideal) S_ .f32 0x00000000#32))
      reduceWindows_S128x32767_S128x32767_w1s1p0_0_w32767s1p32766_0 h_S_⟩]
    concatenates_S128x1_S128x32767_S128x32768_d1

/-- The reference's entry at row `r`, column `j` is the sum of the row's entries before column `j`. -/
theorem ref_apply (X : FVec Ideal S128x32768 .f32) (r : Fin 128) (j : Fin 32768) :
    ref X (ix2 r j) = ∑ p ∈ Finset.range j.val, row X r p := by
  unfold ref
  have hjl := j.isLt
  by_cases hj : j.val < 1
  · refine (concatenate_pair_apply_left (s₁ := S128x1) (s₂ := S128x32767) (t := S128x32768) 1 _ _ _ (ix2 r j) rfl
      (ix2 r (0 : Fin 1)) ?_).trans ?_
    rotate_left
    · rw [Nat.lt_one_iff.1 hj, Finset.sum_range_zero]
      pointwise
    · intro b
      match b with
      | ⟨0, _⟩ => rfl
      | ⟨1, _⟩ => exact (Nat.lt_one_iff.1 hj).symm
  · have hq : j.val - 1 < 32767 := by omega
    have e : j.val - 1 + 1 = j.val := by omega
    refine (concatenate_pair_apply_right (s₁ := S128x1) (s₂ := S128x32767) (t := S128x32768) 1 _ _ _ (ix2 r j) rfl rfl
      (ix2 r (⟨j.val - 1, hq⟩ : Fin 32767)) ?_ e).trans ?_
    rotate_left
    · rw [cumsum_apply _ _ (by pointwise) r ⟨j.val - 1, hq⟩]
      refine (Finset.sum_congr (congrArg Finset.range e) fun p hp => ?_)
      have hp' := Finset.mem_range.1 hp
      rw [row_of_lt _ r (by omega : p < 32767), row_of_lt X r (by omega)]
      pointwise
    · intro b
      match b with
      | ⟨0, _⟩ => exact fun _ => rfl
      | ⟨1, _⟩ => exact fun h => absurd rfl h

end Cert.RefSum

end
-- ==== Proof.lean ====
/-
  The claims of this package, assembled: the frames of the two kernel programs and of the reference, the idealized
  kernel's agreement with the kernel, and the equation of the two results over the extended reals.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Carry
public import proofs.«01_k».proof.Proof.RefSum
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, leaves its argument unchanged and all counters at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result array and the reference's are one function of the argument: at each entry the sum of the row's
    entries before it. -/
theorem result_eq (m : (ℓ : Loc Cert.KernelIdeal.nD Cert.KernelIdeal.τ Cert.KernelIdeal.sig) → Buf (Elt Ideal) ℓ)
    (c : Dev Cert.KernelIdeal.nD) :
    Cert.KernelIdeal.Value.G1 m c = Cert.RefSum.ref (Cert.Carry.arg m c) := by
  funext i
  obtain ⟨r, j, rfl⟩ : ∃ (r : Fin 128) (j : Fin 32768), i = ix2 r j := ⟨i 0, i 1, eq_ix2 i⟩
  exact (Cert.Carry.result_value m c r j).trans (Cert.RefSum.ref_apply (Cert.Carry.arg m c) r j).symm

/-- The idealized kernel and the idealized reference, on equal arguments, end with equal results. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine Eq.trans (b := Cert.RefSum.ref (m' ((c.tc : Thread Cert.ReferenceIdeal.nD Cert.ReferenceIdeal.τ).loc Cert.ReferenceIdeal.main_arg0))) rfl ?_
  exact (congrArg Cert.RefSum.ref (hagree c)).trans (result_eq m c).symm

/-- All claims of the package. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
